-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x768 : Shape := ⟨3, ![1, 2048, 768]⟩
abbrev S768x65536 : Shape := ⟨2, ![768, 65536]⟩
abbrev S65536 : Shape := ⟨1, ![65536]⟩
abbrev S65536x768 : Shape := ⟨2, ![65536, 768]⟩
abbrev S768 : Shape := ⟨1, ![768]⟩
abbrev S1x1x768 : Shape := ⟨3, ![1, 1, 768]⟩
abbrev S1x2048x65536 : Shape := ⟨3, ![1, 2048, 65536]⟩
abbrev S1x1x65536 : Shape := ⟨3, ![1, 1, 65536]⟩
abbrev S_ : Shape := ⟨0, ![]⟩
abbrev S1x2048x64 : Shape := ⟨3, ![1, 2048, 64]⟩
abbrev S1 : Shape := ⟨1, ![1]⟩
abbrev S1x1x1 : Shape := ⟨3, ![1, 1, 1]⟩
abbrev S2048 : Shape := ⟨1, ![2048]⟩
abbrev S1x2048x1 : Shape := ⟨3, ![1, 2048, 1]⟩
abbrev S1x2048x64x1 : Shape := ⟨4, ![1, 2048, 64, 1]⟩
abbrev S1x2048x64x3 : Shape := ⟨4, ![1, 2048, 64, 3]⟩
abbrev S2048x768 : Shape := ⟨2, ![2048, 768]⟩
abbrev S1x768 : Shape := ⟨2, ![1, 768]⟩

abbrev nBuf : Space → Nat
  | .hbm => 59
  | .vmem => 3
  | .smem => 0
  | _ => 0

abbrev bufTy : (tb : Table) → Fin (tcTables nBuf tb) → BufTy
  | .hbm, ⟨0, _⟩ => ⟨S1x2048x768, .f32⟩
  | .hbm, ⟨1, _⟩ => ⟨S768x65536, .f32⟩
  | .hbm, ⟨2, _⟩ => ⟨S65536, .f32⟩
  | .hbm, ⟨3, _⟩ => ⟨S65536x768, .f32⟩
  | .hbm, ⟨4, _⟩ => ⟨S768, .f32⟩
  | .hbm, ⟨5, _⟩ => ⟨S1x1x768, .f32⟩
  | .hbm, ⟨6, _⟩ => ⟨S1x2048x768, .f32⟩
  | .hbm, ⟨7, _⟩ => ⟨S1x2048x768, .f32⟩
  | .hbm, ⟨8, _⟩ => ⟨S1x2048x768, .bf16⟩
  | .hbm, ⟨9, _⟩ => ⟨S768x65536, .bf16⟩
  | .hbm, ⟨10, _⟩ => ⟨S1x2048x65536, .f32⟩
  | .hbm, ⟨11, _⟩ => ⟨S1x1x65536, .f32⟩
  | .hbm, ⟨12, _⟩ => ⟨S1x2048x65536, .f32⟩
  | .hbm, ⟨13, _⟩ => ⟨S1x2048x65536, .f32⟩
  | .hbm, ⟨14, _⟩ => ⟨S_, .f32⟩
  | .hbm, ⟨15, _⟩ => ⟨S1x2048x65536, .f32⟩
  | .hbm, ⟨16, _⟩ => ⟨S1x2048x65536, .f32⟩
  | .hbm, ⟨17, _⟩ => ⟨S1x2048x64, .f32⟩
  | .hbm, ⟨18, _⟩ => ⟨S1x2048x64, .i32⟩
  | .hbm, ⟨19, _⟩ => ⟨S_, .f32⟩
  | .hbm, ⟨20, _⟩ => ⟨S1x2048x65536, .f32⟩
  | .hbm, ⟨21, _⟩ => ⟨S1, .i32⟩
  | .hbm, ⟨22, _⟩ => ⟨S1x1x1, .i32⟩
  | .hbm, ⟨23, _⟩ => ⟨S2048, .i32⟩
  | .hbm, ⟨24, _⟩ => ⟨S1x2048x1, .i32⟩
  | .hbm, ⟨25, _⟩ => ⟨S_, .i32⟩
  | .hbm, ⟨26, _⟩ => ⟨S1x1x1, .i32⟩
  | .hbm, ⟨27, _⟩ => ⟨S1x1x1, .i1⟩
  | .hbm, ⟨28, _⟩ => ⟨S_, .i32⟩
  | .hbm, ⟨29, _⟩ => ⟨S1x1x1, .i32⟩
  | .hbm, ⟨30, _⟩ => ⟨S1x1x1, .i32⟩
  | .hbm, ⟨31, _⟩ => ⟨S1x1x1, .i32⟩
  | .hbm, ⟨32, _⟩ => ⟨S_, .i32⟩
  | .hbm, ⟨33, _⟩ => ⟨S1x2048x1, .i32⟩
  | .hbm, ⟨34, _⟩ => ⟨S1x2048x1, .i1⟩
  | .hbm, ⟨35, _⟩ => ⟨S_, .i32⟩
  | .hbm, ⟨36, _⟩ => ⟨S1x2048x1, .i32⟩
  | .hbm, ⟨37, _⟩ => ⟨S1x2048x1, .i32⟩
  | .hbm, ⟨38, _⟩ => ⟨S1x2048x1, .i32⟩
  | .hbm, ⟨39, _⟩ => ⟨S_, .i32⟩
  | .hbm, ⟨40, _⟩ => ⟨S1x2048x64, .i32⟩
  | .hbm, ⟨41, _⟩ => ⟨S1x2048x64, .i1⟩
  | .hbm, ⟨42, _⟩ => ⟨S_, .i32⟩
  | .hbm, ⟨43, _⟩ => ⟨S1x2048x64, .i32⟩
  | .hbm, ⟨44, _⟩ => ⟨S1x2048x64, .i32⟩
  | .hbm, ⟨45, _⟩ => ⟨S1x2048x64, .i32⟩
  | .hbm, ⟨46, _⟩ => ⟨S1x2048x64, .i32⟩
  | .hbm, ⟨47, _⟩ => ⟨S1x2048x64, .i32⟩
  | .hbm, ⟨48, _⟩ => ⟨S1x2048x64x1, .i32⟩
  | .hbm, ⟨49, _⟩ => ⟨S1x2048x64x1, .i32⟩
  | .hbm, ⟨50, _⟩ => ⟨S1x2048x64x1, .i32⟩
  | .hbm, ⟨51, _⟩ => ⟨S1x2048x64x3, .i32⟩
  | .hbm, ⟨52, _⟩ => ⟨S1x2048x65536, .f32⟩
  | .hbm, ⟨53, _⟩ => ⟨S1x2048x768, .f32⟩
  | .hbm, ⟨54, _⟩ => ⟨S2048x768, .f32⟩
  | .hbm, ⟨55, _⟩ => ⟨S1x768, .f32⟩
  | .hbm, ⟨56, _⟩ => ⟨S2048x768, .f32⟩
  | .hbm, ⟨57, _⟩ => ⟨S2048x768, .f32⟩
  | .hbm, ⟨58, _⟩ => ⟨S1x2048x768, .f32⟩
  | .local _ .vmem, ⟨0, _⟩ => ⟨S2048x768, .f32⟩
  | .local _ .vmem, ⟨1, _⟩ => ⟨S2048x768, .f32⟩
  | .local _ .vmem, ⟨2, _⟩ => ⟨S2048x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_cst : Ref sig .tc := ⟨.hbm, 14, rfl⟩
abbrev main_call0_v0 : Ref sig .tc := ⟨.hbm, 15, rfl⟩
abbrev main_v9 : Ref sig .tc := ⟨.hbm, 16, rfl⟩
abbrev main_values : Ref sig .tc := ⟨.hbm, 17, rfl⟩
abbrev main_indices : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_1 : Ref sig .tc := ⟨.hbm, 32, rfl⟩
abbrev main_v20 : Ref sig .tc := ⟨.hbm, 33, rfl⟩
abbrev main_v21 : Ref sig .tc := ⟨.hbm, 34, rfl⟩
abbrev main_c_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_3 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1x2048x768 : Shape := ⟨3, ![1, 2048, 768]⟩
abbrev S768x65536 : Shape := ⟨2, ![768, 65536]⟩
abbrev S65536 : Shape := ⟨1, ![65536]⟩
abbrev S65536x768 : Shape := ⟨2, ![65536, 768]⟩
abbrev S768 : Shape := ⟨1, ![768]⟩
abbrev S1x1x768 : Shape := ⟨3, ![1, 1, 768]⟩
abbrev S1x2048x65536 : Shape := ⟨3, ![1, 2048, 65536]⟩
abbrev S1x1x65536 : Shape := ⟨3, ![1, 1, 65536]⟩
abbrev S_ : Shape := ⟨0, ![]⟩
abbrev S1x2048x64 : Shape := ⟨3, ![1, 2048, 64]⟩
abbrev S1 : Shape := ⟨1, ![1]⟩
abbrev S1x1x1 : Shape := ⟨3, ![1, 1, 1]⟩
abbrev S2048 : Shape := ⟨1, ![2048]⟩
abbrev S1x2048x1 : Shape := ⟨3, ![1, 2048, 1]⟩
abbrev S1x2048x64x1 : Shape := ⟨4, ![1, 2048, 64, 1]⟩
abbrev S1x2048x64x3 : Shape := ⟨4, ![1, 2048, 64, 3]⟩

abbrev nBuf : Space → Nat
  | .hbm => 55
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S768x65536, .f32⟩
  | .hbm, ⟨2, _⟩ => ⟨S65536, .f32⟩
  | .hbm, ⟨3, _⟩ => ⟨S65536x768, .f32⟩
  | .hbm, ⟨4, _⟩ => ⟨S768, .f32⟩
  | .hbm, ⟨5, _⟩ => ⟨S1x1x768, .f32⟩
  | .hbm, ⟨6, _⟩ => ⟨S1x2048x768, .f32⟩
  | .hbm, ⟨7, _⟩ => ⟨S1x2048x768, .f32⟩
  | .hbm, ⟨8, _⟩ => ⟨S1x2048x65536, .f32⟩
  | .hbm, ⟨9, _⟩ => ⟨S1x1x65536, .f32⟩
  | .hbm, ⟨10, _⟩ => ⟨S1x2048x65536, .f32⟩
  | .hbm, ⟨11, _⟩ => ⟨S1x2048x65536, .f32⟩
  | .hbm, ⟨12, _⟩ => ⟨S_, .f32⟩
  | .hbm, ⟨13, _⟩ => ⟨S1x2048x65536, .f32⟩
  | .hbm, ⟨14, _⟩ => ⟨S1x2048x65536, .f32⟩
  | .hbm, ⟨15, _⟩ => ⟨S1x2048x64, .f32⟩
  | .hbm, ⟨16, _⟩ => ⟨S1x2048x64, .i32⟩
  | .hbm, ⟨17, _⟩ => ⟨S_, .f32⟩
  | .hbm, ⟨18, _⟩ => ⟨S1x2048x65536, .f32⟩
  | .hbm, ⟨19, _⟩ => ⟨S1, .i32⟩
  | .hbm, ⟨20, _⟩ => ⟨S1x1x1, .i32⟩
  | .hbm, ⟨21, _⟩ => ⟨S2048, .i32⟩
  | .hbm, ⟨22, _⟩ => ⟨S1x2048x1, .i32⟩
  | .hbm, ⟨23, _⟩ => ⟨S_, .i32⟩
  | .hbm, ⟨24, _⟩ => ⟨S1x1x1, .i32⟩
  | .hbm, ⟨25, _⟩ => ⟨S1x1x1, .i1⟩
  | .hbm, ⟨26, _⟩ => ⟨S_, .i32⟩
  | .hbm, ⟨27, _⟩ => ⟨S1x1x1, .i32⟩
  | .hbm, ⟨28, _⟩ => ⟨S1x1x1, .i32⟩
  | .hbm, ⟨29, _⟩ => ⟨S1x1x1, .i32⟩
  | .hbm, ⟨30, _⟩ => ⟨S_, .i32⟩
  | .hbm, ⟨31, _⟩ => ⟨S1x2048x1, .i32⟩
  | .hbm, ⟨32, _⟩ => ⟨S1x2048x1, .i1⟩
  | .hbm, ⟨33, _⟩ => ⟨S_, .i32⟩
  | .hbm, ⟨34, _⟩ => ⟨S1x2048x1, .i32⟩
  | .hbm, ⟨35, _⟩ => ⟨S1x2048x1, .i32⟩
  | .hbm, ⟨36, _⟩ => ⟨S1x2048x1, .i32⟩
  | .hbm, ⟨37, _⟩ => ⟨S_, .i32⟩
  | .hbm, ⟨38, _⟩ => ⟨S1x2048x64, .i32⟩
  | .hbm, ⟨39, _⟩ => ⟨S1x2048x64, .i1⟩
  | .hbm, ⟨40, _⟩ => ⟨S_, .i32⟩
  | .hbm, ⟨41, _⟩ => ⟨S1x2048x64, .i32⟩
  | .hbm, ⟨42, _⟩ => ⟨S1x2048x64, .i32⟩
  | .hbm, ⟨43, _⟩ => ⟨S1x2048x64, .i32⟩
  | .hbm, ⟨44, _⟩ => ⟨S1x2048x64, .i32⟩
  | .hbm, ⟨45, _⟩ => ⟨S1x2048x64, .i32⟩
  | .hbm, ⟨46, _⟩ => ⟨S1x2048x64x1, .i32⟩
  | .hbm, ⟨47, _⟩ => ⟨S1x2048x64x1, .i32⟩
  | .hbm, ⟨48, _⟩ => ⟨S1x2048x64x1, .i32⟩
  | .hbm, ⟨49, _⟩ => ⟨S1x2048x64x3, .i32⟩
  | .hbm, ⟨50, _⟩ => ⟨S1x2048x65536, .f32⟩
  | .hbm, ⟨51, _⟩ => ⟨S1x2048x768, .f32⟩
  | .hbm, ⟨52, _⟩ => ⟨S1x1x768, .f32⟩
  | .hbm, ⟨53, _⟩ => ⟨S1x2048x768, .f32⟩
  | .hbm, ⟨54, _⟩ => ⟨S1x2048x768, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_v7 : Ref sig .tc := ⟨.hbm, 14, rfl⟩
abbrev main_values : Ref sig .tc := ⟨.hbm, 15, rfl⟩
abbrev main_indices : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== Proof.Bias.lean ====
/-
  What the kernel's one region leaves in its result array: the sum of its two input arrays, as the region finds them.
  There is one point and each window is a whole array, so the body's one store is the array.
-/
module

public import proofs.«01_k».proof.Proof.Gen.KernelIdeal.Frame
public import Idealize.ShloMosaic.Lib.Pipeline.Value

@[expose] public section

noncomputable section

namespace Cert.KernelIdeal.Bias

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The body's stored value is the plain sum of the two blocks that it loads: its shape casts change nothing. -/
theorem pay_eq (x y : Vec F S2048x768 .f32) : k0_pay1 x y = addf (s := S2048x768) x y := by
  unfold k0_pay1
  simp only [shapeCast_self]

theorem offset_zero : (![0, 0] : Fin 2 → Nat) = fun _ => 0 := funext fun a => by fin_cases a <;> rfl

/-- What the body leaves in the output's staging buffer is the sum of the blocks in the inputs'. -/
theorem out_eq (x y : Vec F S2048x768 .f32) : out0_2 x y = addf (s := S2048x768) x y := by
  unfold out0_2
  rw [View.canon_unit_zero offset_zero, View.ld_unit_zero offset_zero, View.ld_unit_zero offset_zero, pay_eq]

/-- The sum of the region's two input arrays, as the region finds them. -/
abbrev total (c : Dev nD) : Buf (Elt F) ((c : Thread nD τ).loc main_v41) :=
  addf (s := S2048x768) (V m c main_v38) (V m c main_v40)

/-- The block that the one point writes back is the (whole) block of that sum. -/
theorem flushed_eq (c : Dev nD) (t : Fin cfg0.N) :
    (dats m 0 c).flushed 2 t = (win0_2.blk t).view.read (Elt F) (total m c) := by
  show (cfg0.win 2).cut (grid0.coords t) ((dats m 0 c).after 2 t) = _
  rw [after0_2, out_eq]
  rfl

/-- Every index of the result array lies in the one point's block. -/
theorem covered (i : S2048x768.Idx) :
    ∃ t : Fin cfg0.N, (cfg0.win 2).flush t = true ∧ i ∈ ((cfg0.win 2).blk t).view.set := by
  refine ⟨t0_0, flush0_2 _, ?_⟩
  show i ∈ ((View.whole main_v41).slice (win0_2.rect t0_0)).set
  rw [View.set_slice_whole, Rect.mem_set_unit]
  intro a
  have h0 : (i 0 : Nat) < 2048 := (i 0).isLt
  have h1 : (i 1 : Nat) < 768 := (i 1).isLt
  have e : win0_2.index t0_0 0 * win0_2.size 0 = 0 ∧ win0_2.xsize (grid0.coords t0_0) 0 = 2048
      ∧ win0_2.index t0_0 1 * win0_2.size 1 = 0 ∧ win0_2.xsize (grid0.coords t0_0) 1 = 768 := by decide +kernel
  match a with
  | ⟨0, _⟩ =>
    show win0_2.index t0_0 0 * win0_2.size 0 ≤ (i 0 : Nat)
      ∧ (i 0 : Nat) < win0_2.index t0_0 0 * win0_2.size 0 + win0_2.xsize (grid0.coords t0_0) 0
    rw [e.1, e.2.1]; omega
  | ⟨1, _⟩ =>
    show win0_2.index t0_0 1 * win0_2.size 1 ≤ (i 1 : Nat)
      ∧ (i 1 : Nat) < win0_2.index t0_0 1 * win0_2.size 1 + win0_2.xsize (grid0.coords t0_0) 1
    rw [e.2.2.1, e.2.2.2]; omega

/-- The result array after the region: the sum of the two input arrays. -/
theorem final (c : Dev nD) : (dats m 0 c).arrAt 2 cfg0.N = total m c :=
  (dats m 0 c).arrAt_eq_of_cover 2 (total m c) (fun t _ => flushed_eq m c t) covered

end Cert.KernelIdeal.Bias

end
-- ==== Proof.Host.lean ====
/-
  The host part of the kernel: what it hands to the region. The encoder's activations, the sparse code (each row's 64
  greatest activations put back at their places in a row of zeros) and the decoder's product are named here, as functions
  of the arguments, and the region's two input arrays are read as these.
-/
module

public import proofs.«01_k».proof.Proof.Bias
public import Idealize.ShloMosaic.Lib.StableHlo.RunRead

@[expose] public section

noncomputable section

namespace Cert.KernelIdeal.HostPart

open Cert.KernelIdeal Cert.KernelIdeal.Gen Idealize.ShloMosaic Idealize.ShloMosaic.TcCoe Idealize.SL.Sem
open Idealize.ShloMosaic.StableHlo

variable {F : FTy → Type} [FloatOps F]

/-- The encoder's activations, as the kernel computes them: `relu ((x - b_dec) W_enc + b_enc)`, the two factors of the
    product rounded to bf16. -/
def acts (x : Vec F S1x2048x768 .f32) (We : Vec F S768x65536 .f32) (be : Vec F S65536 .f32) (bd : Vec F S768 .f32) :
    Vec F S1x2048x65536 .f32 :=
  maximumf
    (addf
      (Host.dotGeneral dot_S1x2048x768_S768x65536_S1x2048x65536_2_0_01_1_n_n none
        (truncf .bf16
          (subf x (broadcastInDim S1x2048x768 ![0, 1, 2] bcast_S1x1x768_S1x2048x768_0_1_2
            (broadcastInDim S1x1x768 ![2] bcast_S768_S1x1x768_2 bd)))
          bitsLt_bf16_f32)
        (truncf .bf16 We bitsLt_bf16_f32))
      (broadcastInDim S1x2048x65536 ![0, 1, 2] bcast_S1x1x65536_S1x2048x65536_0_1_2
        (broadcastInDim S1x1x65536 ![2] bcast_S65536_S1x1x65536_2 be)))
    (broadcastInDim S1x2048x65536 ![] bcast_S_S1x2048x65536 (constant S_ .f32 0x00000000#32))

/-- An integer array's negative entries moved up by `n` (the way an index from the end is read), its other entries kept. -/
def wrap (s : Shape) (h : S_.BroadcastsInDim s (![] : Fin 0 → Fin s.rank)) (n : BitVec 32) (i : Vec F s .i32) : Vec F s .i32 :=
  select (cmpi .slt i (broadcastInDim s ![] h (constantI S_ 32 0#32)))
    (addi i (broadcastInDim s ![] h (constantI S_ 32 n))) i

/-- Three arrays of coordinates side by side: the places at which the scatter writes. -/
def join (a b c : Vec F S1x2048x64x1 .i32) : Vec F S1x2048x64x3 .i32 :=
  concatenate S1x2048x64x3 3 [⟨S1x2048x64x1, a⟩, ⟨S1x2048x64x1, b⟩, ⟨S1x2048x64x1, c⟩]
    concatenates_S1x2048x64x1_S1x2048x64x1_S1x2048x64x1_S1x2048x64x3_d3

/-- The places of the selected entries: the batch, the row, and the column `col` that the selection names. -/
def places (col : Vec F S1x2048x64 .i32) : Vec F S1x2048x64x3 .i32 :=
  join (F := F)
    (broadcastInDim S1x2048x64x1 ![0, 1, 2] bcast_S1x2048x64_S1x2048x64x1_0_1_2
      (broadcastInDim S1x2048x64 ![0, 1, 2] bcast_S1x1x1_S1x2048x64_0_1_2
        (wrap (F := F) S1x1x1 bcast_S_S1x1x1 1#32 (broadcastInDim S1x1x1 ![0] bcast_S1_S1x1x1_0 (iotaInDim S1 32 0)))))
    (broadcastInDim S1x2048x64x1 ![0, 1, 2] bcast_S1x2048x64_S1x2048x64x1_0_1_2
      (broadcastInDim S1x2048x64 ![0, 1, 2] bcast_S1x2048x1_S1x2048x64_0_1_2
        (wrap (F := F) S1x2048x1 bcast_S_S1x2048x1 2048#32 (broadcastInDim S1x2048x1 ![1] bcast_S2048_S1x2048x1_1 (iotaInDim S2048 32 0)))))
    (broadcastInDim S1x2048x64x1 ![0, 1, 2] bcast_S1x2048x64_S1x2048x64x1_0_1_2
      (wrap (F := F) S1x2048x64 bcast_S_S1x2048x64 65536#32 col))

/-- The sparse code of the activations: zeros, with each row's 64 greatest activations at their places. -/
def code (p : Vec F S1x2048x65536 .f32) : Vec F S1x2048x65536 .f32 :=
  Host.scatter scatter_S1x2048x65536_S1x2048x64x3_S1x2048x64_n_012_012_3 (fun _ b => b)
    (broadcastInDim S1x2048x65536 ![] bcast_S_S1x2048x65536 (constant S_ .f32 0x00000000#32))
    (places (F := F) (Host.topK S1x2048x64 2 (FloatOps.cmpfTotal .gt) p sliceFits_S1x2048x65536_S1x2048x64).2)
    (Host.topK S1x2048x64 2 (FloatOps.cmpfTotal .gt) p sliceFits_S1x2048x65536_S1x2048x64).1

/-- The code's product with the decoder's matrix. -/
def decoded (p : Vec F S1x2048x65536 .f32) (Wd : Vec F S65536x768 .f32) : Vec F S1x2048x768 .f32 :=
  Host.dotGeneral dot_S1x2048x65536_S65536x768_S1x2048x768_2_0_01_1_n_n none (code p) Wd

variable (m : (ℓ : Loc nD τ sig) → Buf (Elt F) ℓ)

/-- The line that joins the three arrays of coordinates, read at its result. -/
theorem join_result (hxs hy) (X : Valuation τ sig (Elt F)) :
    (nary (τ := τ) ![main_v32, main_v33, main_v34] main_v35 (fun u => (concatenate S1x2048x64x3 3 [⟨S1x2048x64x1, (u 0 : (⟨S1x2048x64x1, .i32⟩ : BufTy).Contents (Elt F))⟩, ⟨S1x2048x64x1, (u 1 : (⟨S1x2048x64x1, .i32⟩ : BufTy).Contents (Elt F))⟩, ⟨S1x2048x64x1, (u 2 : (⟨S1x2048x64x1, .i32⟩ : BufTy).Contents (Elt F))⟩] concatenates_S1x2048x64x1_S1x2048x64x1_S1x2048x64x1_S1x2048x64x3_d3 : (⟨S1x2048x64x3, .i32⟩ : BufTy).Contents (Elt F))) hxs hy).result X
        (no_index (Proc.devRef .tc main_v35))
      = join (F := F) (X (Proc.devRef .tc main_v32)) (X (Proc.devRef .tc main_v33)) (X (Proc.devRef .tc main_v34)) :=
  nary_result (τ := τ) ![main_v32, main_v33, main_v34] main_v35 _ hxs hy X

/-- The region's first input: the decoded code, its batch and its rows as one axis. -/
theorem V_v38 (c : Dev nD) : V m c main_v38
    = shapeCast S2048x768
        (decoded (acts (m ((c : Thread nD τ).loc main_arg0)) (m ((c : Thread nD τ).loc main_arg1))
            (m ((c : Thread nD τ).loc main_arg2)) (m ((c : Thread nD τ).loc main_arg4)))
          (m ((c : Thread nD τ).loc main_arg3)))
        shapeCasts_S1x2048x768_S2048x768 := by
  unfold V V0
  simp only [hostOps0, hostOps0_1, hostOps0_2, TRef.binary, TRef.nullary, TRef.unary, TRef.toBuf, TRef.ofBuf, cast_eq,
    List.flatten_cons, List.flatten_nil, List.append_nil, List.cons_append, List.nil_append]
  simp (disch := decide) only [readAfter, readUpto, nullary_result', unary_result', binary_result', ternary_result',
    reshape_result', join_result]
  rfl

/-- The region's second input: the decoder's bias, one copy in each row. -/
theorem V_v40 (c : Dev nD) : V m c main_v40
    = broadcastInDim S2048x768 ![0, 1] bcast_S1x768_S2048x768_0_1
        (broadcastInDim S1x768 ![1] bcast_S768_S1x768_1 (m ((c : Thread nD τ).loc main_arg4))) := by
  unfold V V0
  simp only [hostOps0, hostOps0_1, hostOps0_2, TRef.binary, TRef.nullary, TRef.unary, TRef.toBuf, TRef.ofBuf, cast_eq,
    List.flatten_cons, List.flatten_nil, List.append_nil, List.cons_append, List.nil_append]
  after_reads_simp

end Cert.KernelIdeal.HostPart

end
-- ==== Proof.Written.lean ====
/-
  The kernel's result, for any float values: the region's sum, which the host reads as a batch of one.
-/
module

public import proofs.«01_k».proof.Proof.Host
public import Idealize.ShloMosaic.Lib.ValueLayout

@[expose] public section

noncomputable section

namespace Cert.KernelIdeal.Written

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]
variable (m : (ℓ : Loc nD τ sig) → Buf (Elt F) ℓ) (ρ : Dev nD → PrngReg)

/-- One copy of the decoder's bias in each row of a batch of one. -/
def bias (bd : Vec F S768 .f32) : Vec F S1x2048x768 .f32 :=
  broadcastInDim S1x2048x768 ![0, 1, 2] bcast_S1x1x768_S1x2048x768_0_1_2 (broadcastInDim S1x1x768 ![2] bcast_S768_S1x1x768_2 bd)

/-- The whole computation, as a function of the five arguments: the decoded sparse code plus the decoder's bias. -/
def result (x : Vec F S1x2048x768 .f32) (We : Vec F S768x65536 .f32) (be : Vec F S65536 .f32) (Wd : Vec F S65536x768 .f32)
    (bd : Vec F S768 .f32) : Vec F S1x2048x768 .f32 :=
  addf (HostPart.decoded (HostPart.acts x We be bd) Wd) (bias bd)

/-- The bias copied into each row of a matrix, read as a batch of one, is the bias copied into each row of that batch. -/
theorem bias_batch (bd : Vec F S768 .f32) :
    shapeCast S1x2048x768
        (broadcastInDim S2048x768 ![0, 1] bcast_S1x768_S2048x768_0_1 (broadcastInDim S1x768 ![1] bcast_S768_S1x768_1 bd))
        shapeCasts_S2048x768_S1x2048x768
      = bias bd := by
  funext i
  refine ((congrArg _ (eq_ix3 i)).trans (shapeCast_ab_1ab_apply (a := 2048) (b := 768) _ _ (i 0) (i 1) (i 2))).trans ?_
  refine congrArg bd (funext fun a => ?_)
  match a with
  | ⟨0, _⟩ => rfl

/-- A sum of matrices read as a batch of one, the first of them such a batch read as a matrix, is the sum of the batches. -/
theorem batch_sum (Y : Vec F S1x2048x768 .f32) (B : Vec F S2048x768 .f32) :
    shapeCast S1x2048x768 (addf (s := S2048x768) (shapeCast S2048x768 Y shapeCasts_S1x2048x768_S2048x768) B)
        shapeCasts_S2048x768_S1x2048x768
      = addf Y (shapeCast S1x2048x768 B shapeCasts_S2048x768_S1x2048x768) :=
  (show _ = addf (shapeCast S1x2048x768 (shapeCast S2048x768 Y shapeCasts_S1x2048x768_S2048x768)
      shapeCasts_S2048x768_S1x2048x768) (shapeCast S1x2048x768 B shapeCasts_S2048x768_S1x2048x768) from rfl).trans
    (congrArg (fun Z => addf Z _) (shapeCast_shapeCast Y _ _))

/-- What the host's last line leaves in the result: the region's result array, read as a batch of one. -/
theorem tail_eq (c : Dev nD) :
    Pipeline.afterTail₀ cfgs (dats m) 0 (V0 m) [hostOps1] c main_v42
      = shapeCast S1x2048x768 (Bias.total m c) shapeCasts_S2048x768_S1x2048x768 := by
  have hinj : Function.Injective (Pipeline.arrRef (cfgs 0).spec) := by decide
  have h : Pipeline.withArrays (cfgs 0).spec c (V0 m c) (fun w => (dats m 0 c).arrAt w (cfgs 0).N) (Proc.devRef .tc main_v41)
      = Bias.total m c :=
    (Pipeline.withArrays_arr _ hinj c (V0 m c) _ 2).trans (Bias.final m c)
  unfold Pipeline.afterTail₀
  rw [← h]
  generalize Pipeline.withArrays (cfgs 0).spec c (V0 m c) (fun w => (dats m 0 c).arrAt w (cfgs 0).N) = X
  simp only [hostOps1, List.flatten_cons, List.flatten_nil, List.append_nil]
  after_reads_simp
  rfl

/-- The kernel's run: it ends, its result is `result` of its arguments, and its arguments are unchanged. -/
theorem run : θ_run defs (onTc (τ := τ) (main (F := F))) ⟨m, fun _ => 0, ρ⟩ (fun r => ∀ c : Dev nD,
      r.2.mem ((c.tc : Thread nD τ).loc main_v42)
        = result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨?_,
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c)⟩)
    (run_main m ρ)
  refine ((h c).2 main_v42 (Pipeline.mem_restRefs_of main_v42 (by decide) (by decide))).trans ((tail_eq m c).trans ?_)
  unfold Bias.total
  rw [HostPart.V_v38, HostPart.V_v40]
  exact (batch_sum _ _).trans (congrArg (addf _) (bias_batch _))

end Cert.KernelIdeal.Written

end
-- ==== Proof.Equal.lean ====
/-
  The kernel's and the reference's computations are one function of the arguments over the extended reals: there the
  encoder's rounding of its two factors to bf16 changes nothing, and everything else is the same operation.
-/
module

public import proofs.«01_k».proof.Proof.Written
public import proofs.«01_k».proof.Proof.Gen.ReferenceIdeal.Run
public import Idealize.ShloMosaic.PureOps.Ideal

@[expose] public section

noncomputable section

namespace Cert.Equal

open Idealize.ShloMosaic Idealize.ShloMosaic.TcCoe Idealize.SL.Sem

section Reference

open Cert.ReferenceIdeal Cert.ReferenceIdeal.Gen

variable {F : FTy → Type} [FloatOps F]

/-- The encoder's activations, as the reference computes them: `relu ((x - b_dec) W_enc + b_enc)`. -/
def acts (x : Vec F S1x2048x768 .f32) (We : Vec F S768x65536 .f32) (be : Vec F S65536 .f32) (bd : Vec F S768 .f32) :
    Vec F S1x2048x65536 .f32 :=
  maximumf
    (addf
      (Host.dotGeneral dot_S1x2048x768_S768x65536_S1x2048x65536_2_0_01_1_n_n none
        (subf x (broadcastInDim S1x2048x768 ![0, 1, 2] bcast_S1x1x768_S1x2048x768_0_1_2
          (broadcastInDim S1x1x768 ![2] bcast_S768_S1x1x768_2 bd)))
        We)
      (broadcastInDim S1x2048x65536 ![0, 1, 2] bcast_S1x1x65536_S1x2048x65536_0_1_2
        (broadcastInDim S1x1x65536 ![2] bcast_S65536_S1x1x65536_2 be)))
    (broadcastInDim S1x2048x65536 ![] bcast_S_S1x2048x65536 (constant S_ .f32 0x00000000#32))

/-- The reference's result is, for any float values, the kernel's decoding of the reference's own activations, plus the
    bias: after the activations the two programs do the same. -/
theorem reference_eq (m : (ℓ : Loc nD τ sig) → Buf (Elt F) ℓ) (c : Dev nD) :
    Value.res_out0 m c
      = addf (Cert.KernelIdeal.HostPart.decoded
          (acts (m ((c : Thread nD τ).loc main_arg0)) (m ((c : Thread nD τ).loc main_arg1))
            (m ((c : Thread nD τ).loc main_arg2)) (m ((c : Thread nD τ).loc main_arg4)))
          (m ((c : Thread nD τ).loc main_arg3)))
          (Cert.KernelIdeal.Written.bias (m ((c : Thread nD τ).loc main_arg4))) := by
  show Value.res_main_v38 m c = _
  unfold Value.res_main_v38
  rfl

end Reference

open Cert.KernelIdeal in
/-- Over the extended reals the two programs' activations are equal. -/
theorem acts_eq (x : Vec Ideal S1x2048x768 .f32) (We : Vec Ideal S768x65536 .f32) (be : Vec Ideal S65536 .f32)
    (bd : Vec Ideal S768 .f32) : HostPart.acts x We be bd = acts (F := Ideal) x We be bd := rfl

end Cert.Equal

end
-- ==== Proof.lean ====
/-
  Hand-written, untrusted. The proof of `Cert.Claim` (proof/Defs.lean): the three frames and the algebraic claim. The
  kernel's result is one function of its arguments (Proof/Written.lean `run`), and over the extended reals it is the
  reference's (Proof/Equal.lean).
-/
module

public import proofs.«01_k».proof.Defs
public import proofs.«01_k».proof.Proof.Gen.Kernel.Frame
public import proofs.«01_k».proof.Proof.Written
public import proofs.«01_k».proof.Proof.Equal
public import Idealize.ShloMosaic.Lib.Quiescent

@[expose] public section

noncomputable section

namespace Cert.Proof

open Idealize.ShloMosaic Idealize.SL.Sem

/-- The reference's frame: it ends, its arguments are unchanged, and its counters are at zero. -/
theorem reference_frame : Cert.quiescent_ReferenceIdeal (hReferenceIdeal := Cert.ReferenceIdeal.Gen.facts) :=
  fun m g _ => (θ_run (Cert.ReferenceIdeal.defs (F := Ideal)) _ _).mono
    (fun r h => ⟨fun c => (h c).2, sem_eq_zero_of_no_sems (by decide) r.2⟩) (Cert.ReferenceIdeal.Value.run (F := Ideal) m g)

/-- From equal arguments the kernel and the reference, both over the extended reals, leave equal results, and each leaves
    its arguments unchanged. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨_, Cert.KernelIdeal.Written.run (F := Ideal) m g, ?_⟩
  refine (θ_run (Cert.ReferenceIdeal.defs (F := Ideal)) _ _).mono (fun r h c => ⟨(h c).1.trans ?_, (h c).2⟩)
    (Cert.ReferenceIdeal.Value.run (F := Ideal) m' g')
  refine (Cert.Equal.reference_eq m' c).trans ?_
  obtain ⟨h0, h1, h2, h3, h4⟩ := hargs c
  rw [h0, h1, h2, h3, h4, ← Cert.Equal.acts_eq]
  rfl

theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_frame, trivial, algebraic⟩

end Cert.Proof

end
